-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_log_base" .f32 0xBD935D8E#32 (((-(Real.log 10000)) * (1 / 128) : ℝ) : EReal)
  ∧ IdealRules.named_const.Statement Cert.KernelIdeal.κ "half_pi" .f32 0x3FC90FDB#32 (((1 / 2) * Real.pi : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x10240x512 : Shape := ⟨3, ![8, 10240, 512]⟩
abbrev S10 : Shape := ⟨1, ![10]⟩
abbrev S4x1024x512 : Shape := ⟨3, ![4, 1024, 512]⟩
abbrev S1024x512 : Shape := ⟨2, ![1024, 512]⟩
abbrev S1024x256 : Shape := ⟨2, ![1024, 256]⟩
abbrev S1 : Shape := ⟨1, ![1]⟩
abbrev S8x256 : Shape := ⟨2, ![8, 256]⟩
abbrev S1x256 : Shape := ⟨2, ![1, 256]⟩
abbrev S1x1024x512 : Shape := ⟨3, ![1, 1024, 512]⟩

abbrev nBuf : Space → Nat
  | .hbm => 2
  | .vmem => 5
  | .smem => 1
  | _ => 0

abbrev bufTy : (tb : Table) → Fin (tcTables nBuf tb) → BufTy
  | .hbm, ⟨0, _⟩ => ⟨S8x10240x512, .f32⟩
  | .hbm, ⟨1, _⟩ => ⟨S8x10240x512, .f32⟩
  | .local _ .vmem, ⟨0, _⟩ => ⟨S4x1024x512, .f32⟩
  | .local _ .vmem, ⟨1, _⟩ => ⟨S4x1024x512, .f32⟩
  | .local _ .vmem, ⟨2, _⟩ => ⟨S4x1024x512, .f32⟩
  | .local _ .vmem, ⟨3, _⟩ => ⟨S4x1024x512, .f32⟩
  | .local _ .vmem, ⟨4, _⟩ => ⟨S1024x512, .f32⟩
  | .local _ .smem, ⟨0, _⟩ => ⟨S10, .i32⟩
  | _, _ => ⟨S8x10240x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![10, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 1 → Nat :=
  let arg0 : BitVec 32 := BitVec.ofNat 32 (i 0).val
  let v14 : Index := Scalar.indexCast arg0
  ![v14.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelIdeal.lean ====
variable {F : FTy → Type} [FloatOps F] [Named F]
def κ : String → Option EReal := fun
  | "half_pi" => some (((1 / 2) * Real.pi : ℝ) : EReal)
  | "neg_log_base" => some (((-(Real.log 10000)) * (1 / 128) : ℝ) : EReal)
  | _ => none
-- ==== ReferenceIdeal.lean ====
abbrev S8x10240x512 : Shape := ⟨3, ![8, 10240, 512]⟩
abbrev S10 : Shape := ⟨1, ![10]⟩
abbrev S1024 : Shape := ⟨1, ![1024]⟩
abbrev S128 : Shape := ⟨1, ![128]⟩
abbrev S_ : Shape := ⟨0, ![]⟩
abbrev S1024x1 : Shape := ⟨2, ![1024, 1]⟩
abbrev S1x128 : Shape := ⟨2, ![1, 128]⟩
abbrev S1024x128 : Shape := ⟨2, ![1024, 128]⟩
abbrev S1024x256 : Shape := ⟨2, ![1024, 256]⟩
abbrev S10x1 : Shape := ⟨2, ![10, 1]⟩
abbrev S10x128 : Shape := ⟨2, ![10, 128]⟩
abbrev S10x256 : Shape := ⟨2, ![10, 256]⟩
abbrev S10x1x256 : Shape := ⟨3, ![10, 1, 256]⟩
abbrev S10x1024x256 : Shape := ⟨3, ![10, 1024, 256]⟩
abbrev S1x1024x256 : Shape := ⟨3, ![1, 1024, 256]⟩
abbrev S10x1024x512 : Shape := ⟨3, ![10, 1024, 512]⟩
abbrev S10240x512 : Shape := ⟨2, ![10240, 512]⟩
abbrev S1x10240x512 : Shape := ⟨3, ![1, 10240, 512]⟩

abbrev nBuf : Space → Nat
  | .hbm => 50
  | .vmem => 0
  | .smem => 0
  | _ => 0

abbrev bufTy : (tb : Table) → Fin (tcTables nBuf tb) → BufTy
  | .hbm, ⟨0, _⟩ => ⟨S8x10240x512, .f32⟩
  | .hbm, ⟨1, _⟩ => ⟨S10, .i32⟩
  | .hbm, ⟨2, _⟩ => ⟨S1024, .i32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1024, .f32⟩
  | .hbm, ⟨14, _⟩ => ⟨S1024x1, .f32⟩
  | .hbm, ⟨15, _⟩ => ⟨S1x128, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1024x256, .f32⟩
  | .hbm, ⟨22, _⟩ => ⟨S10, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S10x1, .f32⟩
  | .hbm, ⟨34, _⟩ => ⟨S1x128, .f32⟩
  | .hbm, ⟨35, _⟩ => ⟨S10x128, .f32⟩
  | .hbm, ⟨36, _⟩ => ⟨S10x128, .f32⟩
  | .hbm, ⟨37, _⟩ => ⟨S10x128, .f32⟩
  | .hbm, ⟨38, _⟩ => ⟨S10x128, .f32⟩
  | .hbm, ⟨39, _⟩ => ⟨S10x128, .f32⟩
  | .hbm, ⟨40, _⟩ => ⟨S10x256, .f32⟩
  | .hbm, ⟨41, _⟩ => ⟨S10x1x256, .f32⟩
  | .hbm, ⟨42, _⟩ => ⟨S10x1024x256, .f32⟩
  | .hbm, ⟨43, _⟩ => ⟨S1x1024x256, .f32⟩
  | .hbm, ⟨44, _⟩ => ⟨S10x1024x256, .f32⟩
  | .hbm, ⟨45, _⟩ => ⟨S10x1024x512, .f32⟩
  | .hbm, ⟨46, _⟩ => ⟨S10240x512, .f32⟩
  | .hbm, ⟨47, _⟩ => ⟨S1x10240x512, .f32⟩
  | .hbm, ⟨48, _⟩ => ⟨S8x10240x512, .f32⟩
  | .hbm, ⟨49, _⟩ => ⟨S8x10240x512, .f32⟩
  | _, _ => ⟨S8x10240x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Proof.Body.lean ====
/-
  What one block of the kernel computes, as functions of what the block finds.

  The scratch holds one row of encodings per patch position: columns 0..255 encode the channel id, columns 256..511 the
  position. The first grid point writes both halves, the first batch block of every later channel rewrites the channel
  half, and every point adds the scratch to its block of the input.
-/
module

public import proofs.«01_k».proof.Proof.Gen.KernelIdeal.Frame
public import Idealize.ShloMosaic.Lib.Pipeline.ValueKit
public import Idealize.ShloMosaic.Lib.Pointwise
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F] [Named F]

/-- The scratch array once it is filled for a channel whose id is the word `v`: the channel half on the left, the
    position half on the right. -/
def both (v : Elt F .i32) : Vec F S1024x512 .f32 := fun y =>
  if h : (y 1).val < 256 then k0_pay2 v (ix2 (y 0 : Fin 1024) (⟨(y 1).val, h⟩ : Fin 256))
  else k0_pay1 (ix2 (y 0 : Fin 1024) (⟨(y 1).val - 256, by have : (y 1).val < 512 := (y 1).isLt; omega⟩ : Fin 256))

/-- The scratch with its channel half rewritten for the channel id `v` and its right half left as it was. -/
def left (v : Elt F .i32) (xs : Vec F S1024x512 .f32) : Vec F S1024x512 .f32 := fun y =>
  if h : (y 1).val < 256 then k0_pay2 v (ix2 (y 0 : Fin 1024) (⟨(y 1).val, h⟩ : Fin 256)) else xs y

/-- Rewriting the channel half of a filled scratch fills it for the new channel. -/
theorem left_both (v v' : Elt F .i32) : left v (both (F := F) v') = both v := by
  funext y
  unfold left both
  split <;> rfl

section Pieces

variable (p : Vec F S1024x256 .f32) {sig : RefSig} {κ : Kind} {sp : Space}

/-- One store into the channel half of a scratch view, read back: the payload on the left, what was there on the right. -/
theorem read_left (w : View sig κ sp S1024x512 .f32) (f : w.ty.Contents (Elt F))
    (L : List (View.Piece (Elt F) S1024x512 .f32)) (y : S1024x512.Idx) :
    w.read (Elt F) (w.writes (Elt F) f
        (⟨Rect.unit ![0, 0] ![1024, 256] inb_S1024x512_S1024x256_0_0, p⟩ :: L)) y
      = if h : (y 1).val < 256 then p (ix2 (y 0 : Fin 1024) (⟨(y 1).val, h⟩ : Fin 256))
        else w.read (Elt F) (w.writes (Elt F) f L) y := by
  split
  · next h =>
    refine View.read_writes_cons_unit_of_mem (off' := ![0, 0]) w f _ p L y _ rfl fun a => ?_
    fin_cases a <;> exact (Nat.zero_add _).symm
  · next h => exact View.read_writes_cons_unit_of_not_mem (off' := ![0, 0]) w f _ p L y rfl 1 (Or.inr (not_lt.mp h))

/-- One store into the position half of a scratch view, read back on that half. -/
theorem read_right (w : View sig κ sp S1024x512 .f32) (f : w.ty.Contents (Elt F))
    (L : List (View.Piece (Elt F) S1024x512 .f32)) (y : S1024x512.Idx) (h : ¬(y 1).val < 256) :
    w.read (Elt F) (w.writes (Elt F) f
        (⟨Rect.unit ![0, 256] ![1024, 256] inb_S1024x512_S1024x256_0_256, p⟩ :: L)) y
      = p (ix2 (y 0 : Fin 1024) (⟨(y 1).val - 256, by have : (y 1).val < 512 := (y 1).isLt; omega⟩ : Fin 256)) := by
  refine View.read_writes_cons_unit_of_mem (off' := ![0, 256]) w f _ p L y _ rfl fun a => ?_
  fin_cases a
  · exact (Nat.zero_add _).symm
  · exact (Nat.add_sub_cancel' (not_lt.mp h)).symm

/-- Both stores of the first point, whatever the scratch held before, leave it filled. -/
theorem canon_both (v : Elt F .i32) :
    View.canon (Val := Elt F)
      [⟨Rect.unit ![0, 0] ![1024, 256] inb_S1024x512_S1024x256_0_0, k0_pay2 v⟩,
        ⟨Rect.unit ![0, 256] ![1024, 256] inb_S1024x512_S1024x256_0_256, k0_pay1⟩] = both (F := F) v := by
  rw [← View.read_writes_junk_eq_canon VS0_0]
  funext y
  rw [read_left]
  unfold both
  split
  · rfl
  · next h => exact read_right _ _ _ _ _ h

end Pieces

/-- The table's word at a point: the channel id of the point's channel. -/
def word (i : grid0.Coords) (c : Dev nD) (xt : TbBuf0 (F := F) c tbM0_0) : Elt F .i32 :=
  xt (ix1 (i 0 : Fin 10))

variable (c : Dev nD) (i : grid0.Coords)
  (arg3 : Memref sig .tc .vmem S4x1024x512 .f32) (harg3 : arg3.IsWhole)
  (arg4 : Memref sig .tc .vmem S4x1024x512 .f32) (harg4 : arg4.IsWhole)
  (arg5 : Memref sig .tc .vmem S1024x512 .f32) (harg5 : arg5.IsWhole)
  (x0 : Vec F S4x1024x512 .f32) (xt0 : TbBuf0 (F := F) c tbM0_0) (xs0 : Vec F S1024x512 .f32)

/-- The one word the body loads from the table is the word at the point's channel. -/
theorem ld_word (hb) (hf) :
    (View.ld (View.read (Elt F) (View.whole main_arg1) xt0) (Rect.unit (s := S10) (k0_off1 i) ![1] hb)
      (Shape.Idx.first hf) : Elt F .i32) = word i c xt0 := by
  refine View.ld_unit_apply_of _ _ _ _ _ (ix1 (i 0 : Fin 10)) fun a => ?_
  fin_cases a
  exact (show ∀ k : Fin 10, k.val = (Scalar.indexCast (BitVec.ofNat 32 k.val)).toNat + 0 from by decide) (i 0)

/-- The first point of the grid leaves the scratch filled for its channel. -/
theorem sout_A (hc0 : cond0_0 i) (hc1 : cond0_1 i) :
    sout0_A_0 c i arg3 harg3 arg4 harg4 arg5 harg5 hc0 hc1 x0 xt0 = both (word i c xt0) := by
  frame_out
  rw [ld_word, canon_both]

/-- The first point of the grid adds the filled scratch to its block of the input. -/
theorem out_A (hc0 : cond0_0 i) (hc1 : cond0_1 i) :
    out0_A_1 c i arg3 harg3 arg4 harg4 arg5 harg5 hc0 hc1 x0 xt0 = k0_pay3 x0 (both (word i c xt0)) := by
  frame_out
  rw [ld_word, View.readCov_eq_canon', canon_both]
  exact congrArg (k0_pay3 x0) (View.ld_unit_lit _ _ (by decide))

/-- A later batch block of a channel adds the scratch as it found it. -/
theorem out_B (hc0 : ¬cond0_0 i) (hc1 : ¬cond0_1 i) :
    out0_B_1 c i arg3 harg3 arg4 harg4 arg5 harg5 hc0 hc1 x0 xt0 xs0 = k0_pay3 x0 xs0 := by
  frame_out

/-- The first batch block of a later channel rewrites the channel half of the scratch. -/
theorem sout_C (hc0 : ¬cond0_0 i) (hc1 : cond0_1 i) :
    sout0_C_0 c i arg3 harg3 arg4 harg4 arg5 harg5 hc0 hc1 x0 xt0 xs0 = left (word i c xt0) xs0 := by
  frame_out
  rw [ld_word]
  funext y
  refine (read_left _ arg5.view _ [] y).trans ?_
  unfold left
  refine dite_congr rfl (fun _ => rfl) fun _ => ?_
  exact congrFun (harg5.read_unread xs0) y

/-- The first batch block of a later channel adds the rewritten scratch to its block of the input. -/
theorem out_C (hc0 : ¬cond0_0 i) (hc1 : cond0_1 i) :
    out0_C_1 c i arg3 harg3 arg4 harg4 arg5 harg5 hc0 hc1 x0 xt0 xs0 = k0_pay3 x0 (left (word i c xt0) xs0) := by
  rw [← sout_C c i arg3 harg3 arg4 harg4 arg5 harg5 x0 xt0 xs0 hc0 hc1]
  frame_out

end Cert.KernelIdeal.Body

end
-- ==== Proof.Whole.lean ====
/-
  What the kernel's result array holds when the grid is done: the input plus the encodings, index by index.
-/
module

public import proofs.«01_k».proof.Proof.Body
public import Idealize.ShloMosaic.Lib.Pipeline.Value
public import Idealize.ShloMosaic.Lib.Quiescent

@[expose] public section

set_option maxRecDepth 16384

noncomputable section

namespace Cert.KernelIdeal.Whole

open Cert.KernelIdeal Cert.KernelIdeal.Gen Cert.KernelIdeal.Body
open Idealize.ShloMosaic Idealize.ShloMosaic.TcCoe Idealize.SL.Sem

variable {F : FTy → Type} [FloatOps F] [Named F]

/-- The input plus the encodings: row `r` of the input belongs to channel `r / 1024` and to patch `r % 1024`. -/
def sum (x : Vec F S8x10240x512 .f32) (ch : Vec F S10 .i32) : Vec F S8x10240x512 .f32 := fun y =>
  FloatOps.addf (x y) (both (F := F) (ch (ix1 (⟨(y 1).val / 1024, by have : (y 1).val < 10240 := (y 1).isLt; omega⟩ : Fin 10)))
    (ix2 (⟨(y 1).val % 1024, Nat.mod_lt _ (by norm_num)⟩ : Fin 1024) (y 2 : Fin 512)))

/-- What a block writes, at an index: the input's element plus the scratch's element of the same row and column. -/
theorem pay3_apply (x : Vec F S4x1024x512 .f32) (e : Vec F S1024x512 .f32) (b : Fin 4) (p : Fin 1024) (d : Fin 512) :
    k0_pay3 x e (ix3 b p d) = FloatOps.addf (x (ix3 b p d)) (e (ix2 p d)) := by
  pointwise [k0_pay3]

variable (m : (ℓ : Loc nD τ sig) → Buf (Elt F) ℓ) (ρ : Dev nD → PrngReg)

/-- No window's index map reads the channel ids, so the run asks nothing of them. -/
theorem ok : Ok m := trivial

/-- The channel ids of device `c`. -/
abbrev ids (c : Dev nD) : Vec F S10 .i32 := m ((c : Thread nD τ).loc main_arg1)

/-- The word the body reads at a point is the id of the point's channel. -/
theorem word_tbl (c : Dev nD) (i : grid0.Coords) : word i c (tbl m 0) = ids m c (ix1 (i 0 : Fin 10)) := by
  obtain rfl : c = 0 := Subsingleton.elim _ _
  rfl

/-- The first coordinate of a point: the channel. -/
theorem coord0 (t : Fin grid0.N) : (grid0.coords t 0).val = t.val / 2 := by
  have h : (grid0.coords t 0).val = t.val / 2 % 10 := Pipeline.Grid.coords_val t 0 (by decide) rfl
  have ht : t.val < 20 := Nat.lt_of_lt_of_eq t.isLt N_0
  omega

/-- The second coordinate of a point: which half of the batch. -/
theorem coord1 (t : Fin grid0.N) : (grid0.coords t 1).val = t.val % 2 := by
  have h : (grid0.coords t 1).val = t.val / 1 % 2 := Pipeline.Grid.coords_val t 1 (by decide) rfl
  omega

section Cases

variable (c : Dev nD) (t : Fin (cfgM m (ok m)).N)

/-- The first point writes the input plus the scratch filled for the first channel. -/
theorem out_at_A (h0 : t.val % 20 = 0) (h1 : t.val % 2 = 0) :
    (outsAt0 m (ok m) c t.val t.isLt).1 = k0_pay3 (iblk m (ok m) c 0 t) (both (F := F) (word (grid0.coords t) c (tbl m 0))) := by
  rw [outsAt0_A m (ok m) c t h0 h1]
  dsimp only
  exact out_A c (grid0.coords t) (ms0_0 m (ok m) t) (hs0_0 m (ok m) t) (ms0_1 m (ok m) t) (hs0_1 m (ok m) t) scM0_0
    (Memref.isWhole_whole _) (iblk m (ok m) c 0 t) (tbl m 0)
    ((hcond0_0 t).mpr h0) ((hcond0_1 t).mpr h1)

/-- The first point leaves the scratch filled for the first channel. -/
theorem sout_at_A (h0 : t.val % 20 = 0) (h1 : t.val % 2 = 0) :
    (outsAt0 m (ok m) c t.val t.isLt).2 = both (F := F) (word (grid0.coords t) c (tbl m 0)) := by
  rw [outsAt0_A m (ok m) c t h0 h1]
  dsimp only
  exact sout_A c (grid0.coords t) (ms0_0 m (ok m) t) (hs0_0 m (ok m) t) (ms0_1 m (ok m) t) (hs0_1 m (ok m) t) scM0_0
    (Memref.isWhole_whole _) (iblk m (ok m) c 0 t) (tbl m 0)
    ((hcond0_0 t).mpr h0) ((hcond0_1 t).mpr h1)

/-- The second batch half of a channel writes the input plus the scratch it found. -/
theorem out_at_B (h0 : ¬t.val % 20 = 0) (h1 : ¬t.val % 2 = 0) :
    (outsAt0 m (ok m) c t.val t.isLt).1 = k0_pay3 (iblk m (ok m) c 0 t) ((outsAt0 m (ok m) c (t.val - 1) (Nat.lt_of_le_of_lt (Nat.sub_le _ _) t.isLt)).2) := by
  rw [outsAt0_B m (ok m) c t h0 h1]
  dsimp only
  exact out_B c (grid0.coords t) (ms0_0 m (ok m) t) (hs0_0 m (ok m) t) (ms0_1 m (ok m) t) (hs0_1 m (ok m) t) scM0_0
    (Memref.isWhole_whole _) (iblk m (ok m) c 0 t) (tbl m 0) _
    (fun h => h0 ((hcond0_0 t).mp h)) (fun h => h1 ((hcond0_1 t).mp h))

/-- The second batch half of a channel leaves the scratch as it found it. -/
theorem sout_at_B (h0 : ¬t.val % 20 = 0) (h1 : ¬t.val % 2 = 0) :
    (outsAt0 m (ok m) c t.val t.isLt).2 = (outsAt0 m (ok m) c (t.val - 1) (Nat.lt_of_le_of_lt (Nat.sub_le _ _) t.isLt)).2 := by
  rw [outsAt0_B m (ok m) c t h0 h1]
  rfl

/-- The first batch half of a later channel writes the input plus the scratch with its channel half rewritten. -/
theorem out_at_C (h0 : ¬t.val % 20 = 0) (h1 : t.val % 2 = 0) :
    (outsAt0 m (ok m) c t.val t.isLt).1 = k0_pay3 (iblk m (ok m) c 0 t) (left (word (grid0.coords t) c (tbl m 0))
      (outsAt0 m (ok m) c (t.val - 1) (Nat.lt_of_le_of_lt (Nat.sub_le _ _) t.isLt)).2) := by
  rw [outsAt0_C m (ok m) c t h0 h1]
  dsimp only
  exact out_C c (grid0.coords t) (ms0_0 m (ok m) t) (hs0_0 m (ok m) t) (ms0_1 m (ok m) t) (hs0_1 m (ok m) t) scM0_0
    (Memref.isWhole_whole _) (iblk m (ok m) c 0 t) (tbl m 0) _
    (fun h => h0 ((hcond0_0 t).mp h)) ((hcond0_1 t).mpr h1)

/-- The first batch half of a later channel leaves the scratch with its channel half rewritten. -/
theorem sout_at_C (h0 : ¬t.val % 20 = 0) (h1 : t.val % 2 = 0) :
    (outsAt0 m (ok m) c t.val t.isLt).2 = left (word (grid0.coords t) c (tbl m 0))
      (outsAt0 m (ok m) c (t.val - 1) (Nat.lt_of_le_of_lt (Nat.sub_le _ _) t.isLt)).2 := by
  rw [outsAt0_C m (ok m) c t h0 h1]
  dsimp only
  exact sout_C c (grid0.coords t) (ms0_0 m (ok m) t) (hs0_0 m (ok m) t) (ms0_1 m (ok m) t) (hs0_1 m (ok m) t) scM0_0
    (Memref.isWhole_whole _) (iblk m (ok m) c 0 t) (tbl m 0) _
    (fun h => h0 ((hcond0_0 t).mp h)) ((hcond0_1 t).mpr h1)

/-- After every point the scratch is filled for that point's channel. -/
theorem scratch_eq (n : ℕ) : ∀ hn : n < (cfgM m (ok m)).N,
    (outsAt0 m (ok m) c n hn).2 = both (F := F) (word (grid0.coords ⟨n, hn⟩) c (tbl m 0)) := by
  induction n with
  | zero => exact fun hn => sout_at_A m c ⟨0, hn⟩ (Nat.zero_mod _) (Nat.zero_mod _)
  | succ n ih =>
    intro hn
    have hN : n + 1 < 20 := Nat.lt_of_lt_of_eq hn N_0
    have h0 : ¬(n + 1) % 20 = 0 := by omega
    have hx := ih (Nat.lt_of_succ_lt hn)
    by_cases h1 : (n + 1) % 2 = 0
    · exact (sout_at_C m c ⟨n + 1, hn⟩ h0 h1).trans ((congrArg (left _) hx).trans (left_both _ _))
    · refine (sout_at_B m c ⟨n + 1, hn⟩ h0 h1).trans (hx.trans ?_)
      have e : (grid0.coords ⟨n, Nat.lt_of_succ_lt hn⟩ 0 : Fin 10) = grid0.coords ⟨n + 1, hn⟩ 0 :=
        Fin.ext (by rw [coord0, coord0]; dsimp only; omega)
      unfold word
      rw [e]

/-- So every point writes its block of the input plus the encodings of its channel. -/
theorem block_eq :
    (outsAt0 m (ok m) c t.val t.isLt).1
      = k0_pay3 (iblk m (ok m) c 0 t) (both (F := F) (word (grid0.coords t) c (tbl m 0))) := by
  have hs := scratch_eq m c t.val t.isLt
  by_cases h0 : t.val % 20 = 0
  · exact out_at_A m c t h0 (by omega)
  · by_cases h1 : t.val % 2 = 0
    · exact (out_at_C m c t h0 h1).trans (congrArg (k0_pay3 _) ((sout_at_C m c t h0 h1).symm.trans hs))
    · exact (out_at_B m c t h0 h1).trans (congrArg (k0_pay3 _) ((sout_at_B m c t h0 h1).symm.trans hs))

end Cases

/-- The element of the array under element `(b, p, d)` of point `t`'s block. -/
abbrev place (t : Fin grid0.N) (b : Fin 4) (p : Fin 1024) (d : Fin 512) : S8x10240x512.Idx :=
  ix3 (⟨t.val % 2 * 4 + b.val, by omega⟩ : Fin 8)
    (⟨t.val / 2 * 1024 + p.val, by have := Nat.lt_of_lt_of_eq t.isLt N_0; omega⟩ : Fin 10240) d

/-- The block of the input and the block of the result at a point are the same box: batch half `t % 2`, channel `t / 2`. -/
theorem index_eq (t : Fin grid0.N) : cc0_transform_0 (grid0.coords t) = ![t.val % 2, t.val / 2, 0]
    ∧ cc0_transform_1 (grid0.coords t) = ![t.val % 2, t.val / 2, 0] := by
  have hN : t.val < 20 := Nat.lt_of_lt_of_eq t.isLt N_0
  have e0 := coord0 t
  have e1 := coord1 t
  simp only [cc0_transform_0, cc0_transform_1, e0, e1, BitVec.toNat_ofNat]
  constructor <;> (funext a; fin_cases a) <;> simp <;> omega

/-- Element `(b, p, d)` of the input's block at point `t` sits at `place t b p d` of the input. -/
theorem emb_in (t : Fin (cfgM m (ok m)).N) (b : Fin 4) (p : Fin 1024) (d : Fin 512) :
    (((cfgM m (ok m)).win 0).blk t).view.emb (ix3 b p d) = place t b p d := by
  have e : ((cfgM m (ok m)).win 0).index t = ![t.val % 2, t.val / 2, 0] := (index_eq t).1
  blk_ext [e, place]

/-- Element `(b, p, d)` of the result's block at point `t` sits at `place t b p d` of the result. -/
theorem emb_out (t : Fin (cfgM m (ok m)).N) (b : Fin 4) (p : Fin 1024) (d : Fin 512) :
    (((cfgM m (ok m)).win 1).blk t).view.emb (ix3 b p d) = place t b p d := by
  have e : ((cfgM m (ok m)).win 1).index t = ![t.val % 2, t.val / 2, 0] := (index_eq t).2
  blk_ext [e, place]

/-- The input plus the encodings, under element `(b, p, d)` of point `t`'s block. -/
theorem sum_place (x : Vec F S8x10240x512 .f32) (ch : Vec F S10 .i32) (t : Fin grid0.N) (b : Fin 4) (p : Fin 1024)
    (d : Fin 512) :
    sum x ch (place t b p d)
      = FloatOps.addf (x (place t b p d)) (both (F := F) (ch (ix1 (grid0.coords t 0 : Fin 10))) (ix2 p d)) := by
  have e0 : (⟨(t.val / 2 * 1024 + p.val) / 1024, by have := Nat.lt_of_lt_of_eq t.isLt N_0; omega⟩ : Fin 10)
      = grid0.coords t 0 := Fin.ext (by rw [coord0]; dsimp only; omega)
  have e1 : (⟨(t.val / 2 * 1024 + p.val) % 1024, Nat.mod_lt _ (by norm_num)⟩ : Fin 1024) = p :=
    Fin.ext (by dsimp only; omega)
  unfold sum place
  rw [← e0]
  exact congrArg (fun q => FloatOps.addf _ (both _ (ix2 q d))) e1

/-- What a point writes back is its block of the input plus the encodings. -/
theorem flushed_eq (c : Dev nD) (t : Fin (cfgM m (ok m)).N) :
    (dats m (ok m) 0 c).flushed 1 t = (((cfgM m (ok m)).win 1).blk t).view.read (Elt F)
      (sum (m ((c : Thread nD τ).loc main_arg0)) (ids m c)) := by
  show ((cfgM m (ok m)).win 1).cut (grid0.coords t) ((dats m (ok m) 0 c).after 1 t) = _
  rw [after0_1, block_eq]
  funext y
  obtain ⟨b, p, d, rfl⟩ : ∃ (b : Fin 4) (p : Fin 1024) (d : Fin 512), y = ix3 b p d :=
    ⟨_, _, _, eq_ix3 (n0 := 4) (n1 := 1024) (n2 := 512) y⟩
  have hx : iblk m (ok m) c 0 t (ix3 b p d) = m ((c : Thread nD τ).loc main_arg0) (place t b p d) :=
    congrArg (m ((c : Thread nD τ).loc main_arg0)) (emb_in m t b p d)
  have hy : sum (m ((c : Thread nD τ).loc main_arg0)) (ids m c) ((((cfgM m (ok m)).win 1).blk t).view.emb (ix3 b p d))
      = sum (m ((c : Thread nD τ).loc main_arg0)) (ids m c) (place t b p d) :=
    congrArg (sum (m ((c : Thread nD τ).loc main_arg0)) (ids m c)) (emb_out m t b p d)
  refine (pay3_apply _ _ b p d).trans (Eq.trans ?_ hy.symm)
  rw [sum_place, ← hx, ← word_tbl]

/-- Every element of the result lies in the block of some point. -/
theorem cover (i : S8x10240x512.Idx) :
    ∃ t : Fin (cfgM m (ok m)).N, ((cfgM m (ok m)).win 1).flush t = true
      ∧ i ∈ (((cfgM m (ok m)).win 1).blk t).view.set := by
  have h0 : (i 0).val < 8 := (i 0).isLt
  have h1 : (i 1).val < 10240 := (i 1).isLt
  let t : Fin grid0.N := ⟨(i 1).val / 1024 * 2 + (i 0).val / 4, by rw [N_0]; omega⟩
  let b : Fin 4 := ⟨(i 0).val % 4, Nat.mod_lt _ (by norm_num)⟩
  let p : Fin 1024 := ⟨(i 1).val % 1024, Nat.mod_lt _ (by norm_num)⟩
  have hi : place t b p (i 2) = i := by
    funext a
    fin_cases a
    · exact Fin.ext (show ((i 1).val / 1024 * 2 + (i 0).val / 4) % 2 * 4 + (i 0).val % 4 = (i 0).val by omega)
    · exact Fin.ext (show ((i 1).val / 1024 * 2 + (i 0).val / 4) / 2 * 1024 + (i 1).val % 1024 = (i 1).val by omega)
    · rfl
  refine ⟨t, flush0_1 (adm m (ok m)) t, ?_⟩
  have he := (emb_out m t b p (i 2)).trans hi
  exact he ▸ View.emb_mem_set _ _

/-- So the result array ends holding the input plus the encodings. -/
theorem final (c : Dev nD) : (dats m (ok m) 0 c).arrAt 1 (cfgM m (ok m)).N
    = sum (m ((c : Thread nD τ).loc main_arg0)) (ids m c) :=
  (dats m (ok m) 0 c).arrAt_eq_of_cover 1 (sum (m ((c : Thread nD τ).loc main_arg0)) (ids m c))
    (fun t _ => flushed_eq m c t) (cover m)

/-- The run, read: the result array holds the input plus the encodings, and the arguments are unchanged. -/
theorem run : θ_run defs (onTc (τ := τ) (main (F := F))) ⟨m, fun _ => 0, ρ⟩ fun r => ∀ c : Dev nD,
      r.2.mem ((c : Thread nD τ).loc main_v0) = sum (m ((c : Thread nD τ).loc main_arg0)) (ids m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 1).trans (final m c), h.2 c⟩)
    (θ_run_and (run_main m ρ (ok m)) (unchanged m ρ (ok m)))

end Cert.KernelIdeal.Whole

end
-- ==== Proof.Wave.lean ====
/-
  The encoding as a function of real numbers, and what the kernel's two stores hold in its terms.

  Column `k < 128` of the encoding of a number `v` is `sin (v · freq k)`, column `k ≥ 128` is `cos (v · freq (k - 128))`,
  with `freq j = 1 / 10000 ^ (j / 128)`. The kernel computes both as `sin (v · exp (j · base) + phase)` with
  `base = -log 10000 / 128` and the phase `0` or `π / 2`.
-/
module

public import proofs.«01_k».proof.Proof.Body

@[expose] public section

set_option maxRecDepth 16384

noncomputable section

namespace Cert.Wave

open Idealize.ShloMosaic Idealize.ShloMosaic.TcCoe Idealize.SL.Sem

/-- The frequency of column `j` of a half. -/
def freq (j : ℕ) : ℝ := 1 / (10000 : ℝ) ^ ((j : ℝ) / 128)

/-- The encoding of the number `v` at column `k`. -/
def wave (v : ℝ) (k : ℕ) : ℝ := if k < 128 then Real.sin (v * freq k) else Real.cos (v * freq (k - 128))

/-- The kernel's exponential is the frequency. -/
theorem exp_eq_freq (j : ℕ) : Real.exp ((j : ℝ) * (-(Real.log 10000) * (1 / 128))) = freq j := by
  unfold freq
  rw [Real.rpow_def_of_pos (by norm_num), one_div (Real.exp _), ← Real.exp_neg]
  congr 1
  ring

/-- The kernel's sine with a phase is the encoding. -/
theorem sin_eq_wave (v : ℝ) (k : ℕ) (hk : k < 256) :
    Real.sin (v * freq (k % 128) + if k < 128 then 0 else 1 / 2 * Real.pi) = wave v k := by
  unfold wave
  split
  · next h => rw [add_zero, Nat.mod_eq_of_lt h]
  · next h =>
    rw [show 1 / 2 * Real.pi = Real.pi / 2 by ring, Real.sin_add_pi_div_two, show k % 128 = k - 128 by omega]

section Kernel

open Cert.KernelIdeal Cert.KernelIdeal.Gen

/-- The constant named `neg_log_base` is `-log 10000 / 128`. -/
theorem named_base : Named.named (F := Ideal) κ "neg_log_base" (φ := .f32) 0xBD935D8E#32
    = ((-(Real.log 10000) * (1 / 128) : ℝ) : EReal) :=
  IdealRules.named_const.ideal_named_scalar _ _ _ _ rfl

/-- The constant named `half_pi` is `π / 2`. -/
theorem named_half_pi : Named.named (F := Ideal) κ "half_pi" (φ := .f32) 0x3FC90FDB#32
    = ((1 / 2 * Real.pi : ℝ) : EReal) :=
  IdealRules.named_const.ideal_named_scalar _ _ _ _ rfl

/-- The column comparison picks the phase. -/
theorem phase_eq (k : Fin 256) :
    Scalar.select (IntOp.cmpi CmpIPredicate.slt (BitVec.ofNat 32 k.val) 128#32) (0 : EReal)
        (Named.named (F := Ideal) κ "half_pi" (φ := .f32) 0x3FC90FDB#32)
      = ((if k.val < 128 then 0 else 1 / 2 * Real.pi : ℝ) : EReal) := by
  have key : ∀ k : Fin 256, IntOp.cmpi CmpIPredicate.slt (BitVec.ofNat 32 k.val) 128#32
      = if k.val < 128 then 1#1 else 0#1 := by decide +kernel
  rw [key, named_half_pi]
  split
  · exact EReal.coe_zero.symm
  · rfl

/-- The scalar the kernel computes for the number `v` at column `k`, given the word `w` of `k % 128`, is the encoding. -/
theorem scalar_eq (v : ℝ) (k : Fin 256) (w : BitVec 32) (hw : w.toInt = (k.val % 128 : ℕ)) :
    Ideal.sin ((v : EReal) * Ideal.exp ((FloatOps.sitofp (F := Ideal) FTy.f32 w : EReal)
        * Named.named (F := Ideal) κ "neg_log_base" (φ := .f32) 0xBD935D8E#32)
      + Scalar.select (IntOp.cmpi CmpIPredicate.slt (BitVec.ofNat 32 k.val) 128#32) (0 : EReal)
        (Named.named (F := Ideal) κ "half_pi" (φ := .f32) 0x3FC90FDB#32))
      = ((wave v k.val : ℝ) : EReal) := by
  have hs : (FloatOps.sitofp (F := Ideal) FTy.f32 w : EReal) = (((k.val % 128 : ℕ) : ℝ) : EReal) := by
    show ((w.toInt : ℝ) : EReal) = _
    rw [hw, Int.cast_natCast]
  rw [hs, phase_eq, named_base, ← EReal.coe_mul, Ideal.exp_coe, exp_eq_freq, ← EReal.coe_mul, ← EReal.coe_add,
    Ideal.sin_coe, sin_eq_wave v k.val k.isLt]

/-- The position half of the scratch: row `p` encodes the position `p`. -/
theorem pay1_apply (p : Fin 1024) (k : Fin 256) :
    k0_pay1 (F := Ideal) (ix2 p k) = ((wave (p.val : ℝ) k.val : ℝ) : EReal) := by
  have hp : ((FloatOps.sitofp (F := Ideal) FTy.f32 (BitVec.ofNat 32 p.val) : EReal)) = ((p.val : ℝ) : EReal) := by
    show (((BitVec.ofNat 32 p.val).toInt : ℝ) : EReal) = _
    rw [(show ∀ p : Fin 1024, (BitVec.ofNat 32 p.val).toInt = (p.val : ℤ) from by decide +kernel) p, Int.cast_natCast]
  pointwise [k0_pay1]
  rw [hp]
  refine scalar_eq (p.val : ℝ) k _ ?_
  revert k
  decide +kernel

/-- The channel half of the scratch: every row encodes the channel id. -/
theorem pay2_apply (v : BitVec 32) (p : Fin 1024) (k : Fin 256) :
    k0_pay2 (F := Ideal) v (ix2 p k) = ((wave (v.toInt : ℝ) k.val : ℝ) : EReal) := by
  pointwise [k0_pay2]
  refine scalar_eq (v.toInt : ℝ) k _ ?_
  revert k
  decide +kernel

end Kernel

end Cert.Wave

end
-- ==== Proof.Consts.lean ====
/-
  The float constants the reference writes, as the real numbers they denote.
-/
module

public import Idealize.ShloMosaic.PureOps.Ideal

@[expose] public section

noncomputable section

namespace Cert.Consts

open Idealize.ShloMosaic

/-- The pattern of `1.0` denotes the real `1`. -/
theorem one : Ideal.ofBits .f32 0x3F800000#32 = ((1 : ℝ) : EReal) := by
  simp [Ideal.ofBits, Ideal.ieee, -EReal.coe_mul]; norm_num

/-- The pattern of `10000.0` denotes the real `10000`. -/
theorem tenThousand : Ideal.ofBits .f32 0x461C4000#32 = ((10000 : ℝ) : EReal) := by
  simp [Ideal.ofBits, Ideal.ieee, -EReal.coe_mul]; norm_num

/-- The pattern of `128.0` denotes the real `128`. -/
theorem half : Ideal.ofBits .f32 0x43000000#32 = ((128 : ℝ) : EReal) := by
  simp [Ideal.ofBits, Ideal.ieee, -EReal.coe_mul]; norm_num

end Cert.Consts

end
-- ==== Proof.Ref.lean ====
/-
  What the reference computes, index by index.
-/
module

public import proofs.«01_k».proof.Proof.Wave
public import proofs.«01_k».proof.Proof.Whole
public import proofs.«01_k».proof.Proof.Consts
public import proofs.«01_k».proof.Proof.Gen.ReferenceIdeal.Run

@[expose] public section

set_option maxRecDepth 16384

noncomputable section

namespace Cert.Ref

open Cert.ReferenceIdeal Cert.ReferenceIdeal.Gen Cert.Wave
open Idealize.ShloMosaic Idealize.ShloMosaic.TcCoe Idealize.SL.Sem

/-- The reference's frequencies. -/
def freqs : FVec Ideal S128 .f32 :=
  Host.divf (broadcastInDim S128 ![] bcast_S_S128 (constant S_ .f32 0x3F800000#32))
    (Host.powf (broadcastInDim S128 ![] bcast_S_S128 (constant S_ .f32 0x461C4000#32))
      (Host.divf (sitofp .f32 (iotaInDim S128 32 0)) (broadcastInDim S128 ![] bcast_S_S128 (constant S_ .f32 0x43000000#32))))

/-- Each is `1 / 10000 ^ (j / 128)`. -/
theorem freqs_apply (j : Fin 128) : freqs (ix1 j) = ((freq j.val : ℝ) : EReal) := by
  have hj : (FloatOps.sitofp (F := Ideal) FTy.f32 (BitVec.ofNat 32 j.val) : EReal) = ((j.val : ℝ) : EReal) := by
    show (((BitVec.ofNat 32 j.val).toInt : ℝ) : EReal) = _
    rw [(show ∀ j : Fin 128, (BitVec.ofNat 32 j.val).toInt = (j.val : ℤ) from by decide +kernel) j, Int.cast_natCast]
  have h0 : ((10000 : ℝ) ^ ((j.val : ℝ) / 128)) ≠ 0 := (Real.rpow_pos_of_pos (by norm_num) _).ne'
  pointwise [freqs]
  rw [hj, Consts.tenThousand, Consts.half, Ideal.div_coe (by norm_num), ← EReal.coe_mul, mul_one_div, Ideal.pow_coe_coe]
  refine (Ideal.div_coe h0 1).trans ?_
  rw [one_mul]
  rfl

/-- The angles of the channels: id times frequency. -/
def chanAngle (ch : IVec S10 32) : FVec Ideal S10x128 .f32 :=
  mulf (broadcastInDim S10x128 ![0, 1] bcast_S10x1_S10x128_0_1
      (broadcastInDim S10x1 ![0] bcast_S10_S10x1_0 (sitofp .f32 ch)))
    (broadcastInDim S10x128 ![0, 1] bcast_S1x128_S10x128_0_1 (broadcastInDim S1x128 ![1] bcast_S128_S1x128_1 freqs))

/-- The angles of the positions: position times frequency. -/
def posAngle : FVec Ideal S1024x128 .f32 :=
  mulf (broadcastInDim S1024x128 ![0, 1] bcast_S1024x1_S1024x128_0_1
      (broadcastInDim S1024x1 ![0] bcast_S1024_S1024x1_0 (sitofp .f32 (iotaInDim S1024 32 0))))
    (broadcastInDim S1024x128 ![0, 1] bcast_S1x128_S1024x128_0_1 (broadcastInDim S1x128 ![1] bcast_S128_S1x128_1 freqs))

/-- The angle of channel `c` at frequency `j`. -/
theorem chanAngle_apply (ch : IVec S10 32) (c : Fin 10) (j : Fin 128) :
    chanAngle ch (ix2 c j) = ((((ch (ix1 c)).toInt : ℝ) * freq j.val : ℝ) : EReal) := by
  have h := freqs_apply j
  generalize hf : freqs = f at h
  pointwise [chanAngle, hf]
  rw [h]
  exact (EReal.coe_mul _ _).symm

/-- The angle of position `p` at frequency `j`. -/
theorem posAngle_apply (p : Fin 1024) (j : Fin 128) :
    posAngle (ix2 p j) = (((p.val : ℝ) * freq j.val : ℝ) : EReal) := by
  have h := freqs_apply j
  generalize hf : freqs = f at h
  pointwise [posAngle, hf]
  rw [h]
  have hp : (FloatOps.sitofp (F := Ideal) FTy.f32 (BitVec.ofNat 32 p.val) : EReal) = ((p.val : ℝ) : EReal) := by
    show (((BitVec.ofNat 32 p.val).toInt : ℝ) : EReal) = _
    rw [(show ∀ p : Fin 1024, (BitVec.ofNat 32 p.val).toInt = (p.val : ℤ) from by decide +kernel) p, Int.cast_natCast]
  rw [hp]
  exact (EReal.coe_mul _ _).symm

/-- The channels' half of the encoding. -/
def chanHalf (ch : IVec S10 32) : FVec Ideal S10x256 .f32 :=
  concatenate S10x256 1 [⟨S10x128, Host.sin (chanAngle ch)⟩, ⟨S10x128, Host.cos (chanAngle ch)⟩]
    concatenates_S10x128_S10x128_S10x256_d1

/-- The positions' half of the encoding. -/
def posHalf : FVec Ideal S1024x256 .f32 :=
  concatenate S1024x256 1 [⟨S1024x128, Host.sin posAngle⟩, ⟨S1024x128, Host.cos posAngle⟩]
    concatenates_S1024x128_S1024x128_S1024x256_d1

/-- Row `c` of the channels' half is the encoding of the channel id. -/
theorem chanHalf_apply (ch : IVec S10 32) (c : Fin 10) (k : Fin 256) :
    chanHalf ch (ix2 c k) = ((wave ((ch (ix1 c)).toInt : ℝ) k.val : ℝ) : EReal) := by
  have h := chanAngle_apply ch c
  generalize hf : chanAngle ch = f at h
  pointwise [chanHalf, hf]
  unfold wave
  split
  · rw [h, Ideal.sin_coe]
  · rw [h, Ideal.cos_coe]

/-- Row `p` of the positions' half is the encoding of the position. -/
theorem posHalf_apply (p : Fin 1024) (k : Fin 256) :
    posHalf (ix2 p k) = ((wave (p.val : ℝ) k.val : ℝ) : EReal) := by
  have h := posAngle_apply p
  generalize hf : posAngle = f at h
  pointwise [posHalf, hf]
  unfold wave
  split
  · rw [h, Ideal.sin_coe]
  · rw [h, Ideal.cos_coe]

/-- Both halves side by side, a row for each channel and position. -/
def table (a : FVec Ideal S10x256 .f32) (b : FVec Ideal S1024x256 .f32) : FVec Ideal S10x1024x512 .f32 :=
  concatenate S10x1024x512 2
    [⟨S10x1024x256, broadcastInDim S10x1024x256 ![0, 1, 2] bcast_S10x1x256_S10x1024x256_0_1_2
        (broadcastInDim S10x1x256 ![0, 2] bcast_S10x256_S10x1x256_0_2 a)⟩,
      ⟨S10x1024x256, broadcastInDim S10x1024x256 ![0, 1, 2] bcast_S1x1024x256_S10x1024x256_0_1_2
        (broadcastInDim S1x1024x256 ![1, 2] bcast_S1024x256_S1x1024x256_1_2 b)⟩]
    concatenates_S10x1024x256_S10x1024x256_S10x1024x512_d2

/-- The table at a column of the first half. -/
theorem table_left (a : FVec Ideal S10x256 .f32) (b : FVec Ideal S1024x256 .f32) (c : Fin 10) (p : Fin 1024)
    (d : Fin 512) (h : d.val < 256) : table a b (ix3 c p d) = a (ix2 c ⟨d.val, h⟩) := by
  pointwise [table]
  rw [dif_pos h]

/-- The table at a column of the second half. -/
theorem table_right (a : FVec Ideal S10x256 .f32) (b : FVec Ideal S1024x256 .f32) (c : Fin 10) (p : Fin 1024)
    (d : Fin 512) (h : ¬ d.val < 256) : table a b (ix3 c p d) = b (ix2 p ⟨d.val - 256, by omega⟩) := by
  pointwise [table]
  rw [dif_neg h]

/-- The reference's sum with a table laid out as rows. -/
def added (x : FVec Ideal S8x10240x512 .f32) (t : FVec Ideal S10x1024x512 .f32) : FVec Ideal S8x10240x512 .f32 :=
  addf x (broadcastInDim S8x10240x512 ![0, 1, 2] bcast_S1x10240x512_S8x10240x512_0_1_2
    (broadcastInDim S1x10240x512 ![1, 2] bcast_S10240x512_S1x10240x512_1_2
      (shapeCast S10240x512 t shapeCasts_S10x1024x512_S10240x512)))

/-- Row `r` of the sum takes the table's row of channel `r / 1024` and position `r % 1024`. -/
theorem added_apply (x : FVec Ideal S8x10240x512 .f32) (t : FVec Ideal S10x1024x512 .f32) (i : Fin 8) (r : Fin 10240)
    (d : Fin 512) :
    added x t (ix3 i r d) = x (ix3 i r d)
      + t (ix3 (⟨r.val / 1024, by omega⟩ : Fin 10) (⟨r.val % 1024, by omega⟩ : Fin 1024) d) := by
  pointwise [added]

/-- The kernel's scratch at channel id `v`, position `p`: the channel's encoding beside the position's. -/
theorem both_eq_table (ch : IVec S10 32) (c : Fin 10) (p : Fin 1024) (d : Fin 512) :
    Cert.KernelIdeal.Body.both (F := Ideal) (ch (ix1 c)) (ix2 p d) = table (chanHalf ch) posHalf (ix3 c p d) := by
  by_cases h : d.val < 256
  · rw [table_left _ _ c p d h, chanHalf_apply]
    exact (dif_pos h).trans (pay2_apply (ch (ix1 c)) p ⟨d.val, h⟩)
  · rw [table_right _ _ c p d h, posHalf_apply]
    exact (dif_neg h).trans (pay1_apply p ⟨d.val - 256, by omega⟩)

/-- The reference's sum is the array the kernel leaves. -/
theorem result_eq (x : FVec Ideal S8x10240x512 .f32) (ch : IVec S10 32) :
    added x (table (chanHalf ch) posHalf) = Cert.KernelIdeal.Whole.sum (F := Ideal) x ch := by
  funext y
  obtain ⟨i, r, d, rfl⟩ : ∃ (i : Fin 8) (r : Fin 10240) (d : Fin 512), y = ix3 i r d :=
    ⟨y 0, y 1, y 2, eq_ix3 (n0 := 8) (n1 := 10240) (n2 := 512) y⟩
  rw [added_apply, ← both_eq_table]
  rfl

end Cert.Ref

end
-- ==== Proof.lean ====
/-
  The proof of the claims: the frames of the kernel, its idealized form and the reference; the two named constants; and
  the equality of the idealized kernel's result with the reference's.
-/
module

public import proofs.«01_k».proof.Proof.Gen.ReferenceIdeal.Run
public import proofs.«01_k».proof.Proof.Whole
public import proofs.«01_k».proof.Proof.Ref
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs to its end with every semaphore at zero and leaves its arguments as they were. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each named constant is the real number the table names over the extended reals, and the literal over the floats. -/
theorem constants : Cert.preserves_Kernel_KernelIdeal :=
  ⟨IdealRules.named_const.statement Cert.KernelIdeal.κ "neg_log_base" .f32 0xBD935D8E#32
      (((-(Real.log 10000)) * (1 / 128) : ℝ) : EReal) rfl,
    IdealRules.named_const.statement Cert.KernelIdeal.κ "half_pi" .f32 0x3FC90FDB#32
      (((1 / 2) * Real.pi : ℝ) : EReal) rfl⟩

/-- From memories that agree on the arguments, the idealized kernel and the reference leave the same result. -/
theorem same_result : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.Ref.result_eq _ _

/-- Every claim about the kernel. -/
theorem claim : Cert.Claim :=
  ⟨Cert.Kernel.Gen.facts, Cert.KernelIdeal.Gen.facts, Cert.ReferenceIdeal.Gen.facts,
    fun m ρ _ => Cert.Kernel.Gen.frame m ρ trivial, fun m ρ _ => Cert.KernelIdeal.Gen.frame m ρ trivial,
    reference_frame, constants, same_result⟩

end Cert.Proof

end
